-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16x1024x512 : Shape := ⟨4, ![8, 16, 1024, 512]⟩
abbrev S64x64 : Shape := ⟨2, ![64, 64]⟩
abbrev S64x512 : Shape := ⟨2, ![64, 512]⟩
abbrev S512x64 : Shape := ⟨2, ![512, 64]⟩
abbrev S512 : Shape := ⟨1, ![512]⟩
abbrev S1x512 : Shape := ⟨2, ![1, 512]⟩
abbrev S1x4x1024x512 : Shape := ⟨4, ![1, 4, 1024, 512]⟩
abbrev S1024x64 : Shape := ⟨2, ![1024, 64]⟩
abbrev S1024x512 : Shape := ⟨2, ![1024, 512]⟩
abbrev S1x1x1024x512 : Shape := ⟨4, ![1, 1, 1024, 512]⟩

abbrev nBuf : Space → Nat
  | .hbm => 10
  | .vmem => 11
  | .smem => 0
  | _ => 0

abbrev bufTy : (tb : Table) → Fin (tcTables nBuf tb) → BufTy
  | .hbm, ⟨0, _⟩ => ⟨S8x16x1024x512, .f32⟩
  | .hbm, ⟨1, _⟩ => ⟨S64x64, .f32⟩
  | .hbm, ⟨2, _⟩ => ⟨S64x512, .f32⟩
  | .hbm, ⟨3, _⟩ => ⟨S512x64, .f32⟩
  | .hbm, ⟨4, _⟩ => ⟨S512, .f32⟩
  | .hbm, ⟨5, _⟩ => ⟨S64x64, .f32⟩
  | .hbm, ⟨6, _⟩ => ⟨S512x64, .f32⟩
  | .hbm, ⟨7, _⟩ => ⟨S64x512, .f32⟩
  | .hbm, ⟨8, _⟩ => ⟨S1x512, .f32⟩
  | .hbm, ⟨9, _⟩ => ⟨S8x16x1024x512, .f32⟩
  | .local _ .vmem, ⟨0, _⟩ => ⟨S1x4x1024x512, .f32⟩
  | .local _ .vmem, ⟨1, _⟩ => ⟨S1x4x1024x512, .f32⟩
  | .local _ .vmem, ⟨2, _⟩ => ⟨S64x64, .f32⟩
  | .local _ .vmem, ⟨3, _⟩ => ⟨S512x64, .f32⟩
  | .local _ .vmem, ⟨4, _⟩ => ⟨S64x512, .f32⟩
  | .local _ .vmem, ⟨5, _⟩ => ⟨S1x512, .f32⟩
  | .local _ .vmem, ⟨6, _⟩ => ⟨S1x4x1024x512, .f32⟩
  | .local _ .vmem, ⟨7, _⟩ => ⟨S1x4x1024x512, .f32⟩
  | .local _ .vmem, ⟨8, _⟩ => ⟨S1024x64, .f32⟩
  | .local _ .vmem, ⟨9, _⟩ => ⟨S1024x64, .f32⟩
  | .local _ .vmem, ⟨10, _⟩ => ⟨S1024x512, .f32⟩
  | _, _ => ⟨S8x16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x16x1024x512 : Shape := ⟨4, ![8, 16, 1024, 512]⟩
abbrev S64x64 : Shape := ⟨2, ![64, 64]⟩
abbrev S64x512 : Shape := ⟨2, ![64, 512]⟩
abbrev S512x64 : Shape := ⟨2, ![512, 64]⟩
abbrev S512 : Shape := ⟨1, ![512]⟩
abbrev S_ : Shape := ⟨0, ![]⟩
abbrev S8x1024x64 : Shape := ⟨3, ![8, 1024, 64]⟩
abbrev S8x1024x512 : Shape := ⟨3, ![8, 1024, 512]⟩
abbrev S16x8x1024x512 : Shape := ⟨4, ![16, 8, 1024, 512]⟩
abbrev S1x8x1024x512 : Shape := ⟨4, ![1, 8, 1024, 512]⟩
abbrev S1x1x512 : Shape := ⟨3, ![1, 1, 512]⟩

abbrev nBuf : Space → Nat
  | .hbm => 74
  | .vmem => 0
  | .smem => 0
  | _ => 0

abbrev bufTy : (tb : Table) → Fin (tcTables nBuf tb) → BufTy
  | .hbm, ⟨0, _⟩ => ⟨S8x16x1024x512, .f32⟩
  | .hbm, ⟨1, _⟩ => ⟨S64x64, .f32⟩
  | .hbm, ⟨2, _⟩ => ⟨S64x512, .f32⟩
  | .hbm, ⟨3, _⟩ => ⟨S512x64, .f32⟩
  | .hbm, ⟨4, _⟩ => ⟨S512, .f32⟩
  | .hbm, ⟨5, _⟩ => ⟨S_, .f32⟩
  | .hbm, ⟨6, _⟩ => ⟨S8x1024x64, .f32⟩
  | .hbm, ⟨7, _⟩ => ⟨S_, .f32⟩
  | .hbm, ⟨8, _⟩ => ⟨S8x1024x64, .f32⟩
  | .hbm, ⟨9, _⟩ => ⟨S_, .f32⟩
  | .hbm, ⟨10, _⟩ => ⟨S8x1024x512, .f32⟩
  | .hbm, ⟨11, _⟩ => ⟨S16x8x1024x512, .f32⟩
  | .hbm, ⟨12, _⟩ => ⟨S_, .f32⟩
  | .hbm, ⟨13, _⟩ => ⟨S16x8x1024x512, .f32⟩
  | .hbm, ⟨14, _⟩ => ⟨S_, .i32⟩
  | .hbm, ⟨15, _⟩ => ⟨S16x8x1024x512, .f32⟩
  | .hbm, ⟨16, _⟩ => ⟨S64x64, .f32⟩
  | .hbm, ⟨17, _⟩ => ⟨S64x512, .f32⟩
  | .hbm, ⟨18, _⟩ => ⟨S512x64, .f32⟩
  | .hbm, ⟨19, _⟩ => ⟨S512, .f32⟩
  | .hbm, ⟨20, _⟩ => ⟨S_, .i32⟩
  | .hbm, ⟨21, _⟩ => ⟨S8x1024x64, .f32⟩
  | .hbm, ⟨22, _⟩ => ⟨S8x1024x64, .f32⟩
  | .hbm, ⟨23, _⟩ => ⟨S8x1024x512, .f32⟩
  | .hbm, ⟨24, _⟩ => ⟨S16x8x1024x512, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x8x1024x512, .f32⟩
  | .hbm, ⟨31, _⟩ => ⟨S8x1024x512, .f32⟩
  | .hbm, ⟨32, _⟩ => ⟨S8x1024x64, .f32⟩
  | .hbm, ⟨33, _⟩ => ⟨S8x1024x64, .f32⟩
  | .hbm, ⟨34, _⟩ => ⟨S8x1024x64, .f32⟩
  | .hbm, ⟨35, _⟩ => ⟨S8x1024x64, .f32⟩
  | .hbm, ⟨36, _⟩ => ⟨S_, .f32⟩
  | .hbm, ⟨37, _⟩ => ⟨S8x1024x64, .f32⟩
  | .hbm, ⟨38, _⟩ => ⟨S8x1024x64, .f32⟩
  | .hbm, ⟨39, _⟩ => ⟨S8x1024x64, .f32⟩
  | .hbm, ⟨40, _⟩ => ⟨S_, .f32⟩
  | .hbm, ⟨41, _⟩ => ⟨S8x1024x64, .f32⟩
  | .hbm, ⟨42, _⟩ => ⟨S8x1024x64, .i1⟩
  | .hbm, ⟨43, _⟩ => ⟨S8x1024x64, .f32⟩
  | .hbm, ⟨44, _⟩ => ⟨S_, .f32⟩
  | .hbm, ⟨45, _⟩ => ⟨S8x1024x64, .f32⟩
  | .hbm, ⟨46, _⟩ => ⟨S8x1024x64, .f32⟩
  | .hbm, ⟨47, _⟩ => ⟨S8x1024x64, .f32⟩
  | .hbm, ⟨48, _⟩ => ⟨S8x1024x512, .f32⟩
  | .hbm, ⟨49, _⟩ => ⟨S8x1024x512, .f32⟩
  | .hbm, ⟨50, _⟩ => ⟨S1x1x512, .f32⟩
  | .hbm, ⟨51, _⟩ => ⟨S8x1024x512, .f32⟩
  | .hbm, ⟨52, _⟩ => ⟨S8x1024x512, .f32⟩
  | .hbm, ⟨53, _⟩ => ⟨S8x1024x512, .f32⟩
  | .hbm, ⟨54, _⟩ => ⟨S_, .f32⟩
  | .hbm, ⟨55, _⟩ => ⟨S8x1024x512, .f32⟩
  | .hbm, ⟨56, _⟩ => ⟨S8x1024x512, .f32⟩
  | .hbm, ⟨57, _⟩ => ⟨S8x1024x512, .f32⟩
  | .hbm, ⟨58, _⟩ => ⟨S_, .f32⟩
  | .hbm, ⟨59, _⟩ => ⟨S8x1024x512, .f32⟩
  | .hbm, ⟨60, _⟩ => ⟨S8x1024x512, .i1⟩
  | .hbm, ⟨61, _⟩ => ⟨S8x1024x512, .f32⟩
  | .hbm, ⟨62, _⟩ => ⟨S_, .f32⟩
  | .hbm, ⟨63, _⟩ => ⟨S8x1024x512, .f32⟩
  | .hbm, ⟨64, _⟩ => ⟨S8x1024x512, .f32⟩
  | .hbm, ⟨65, _⟩ => ⟨S8x1024x512, .f32⟩
  | .hbm, ⟨66, _⟩ => ⟨S1x8x1024x512, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S16x8x1024x512, .f32⟩
  | .hbm, ⟨71, _⟩ => ⟨S_, .i32⟩
  | .hbm, ⟨72, _⟩ => ⟨S_, .i32⟩
  | .hbm, ⟨73, _⟩ => ⟨S8x16x1024x512, .f32⟩
  | _, _ => ⟨S8x16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_c : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev main_v5_9 : Ref sig .tc := ⟨.hbm, 24, rfl⟩
abbrev main_while0c_c_12 : Ref sig .tc := ⟨.hbm, 25, rfl⟩
abbrev main_while0c_v7 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_v0 : Ref sig .tc := ⟨.hbm, 30, rfl⟩
abbrev main_while0b_v7 : Ref sig .tc := ⟨.hbm, 31, rfl⟩
abbrev main_while0b_v8 : Ref sig .tc := ⟨.hbm, 32, rfl⟩
abbrev main_while0b_v9 : Ref sig .tc := ⟨.hbm, 33, rfl⟩
abbrev main_while0b_v10 : Ref sig .tc := ⟨.hbm, 34, rfl⟩
abbrev main_while0b_v11 : Ref sig .tc := ⟨.hbm, 35, rfl⟩
abbrev main_while0b_cst_12 : Ref sig .tc := ⟨.hbm, 36, rfl⟩
abbrev main_while0b_v12 : Ref sig .tc := ⟨.hbm, 37, rfl⟩
abbrev main_while0b_v13 : Ref sig .tc := ⟨.hbm, 38, rfl⟩
abbrev main_while0b_v14 : Ref sig .tc := ⟨.hbm, 39, rfl⟩
abbrev main_while0b_cst_13 : Ref sig .tc := ⟨.hbm, 40, rfl⟩
abbrev main_while0b_v15 : Ref sig .tc := ⟨.hbm, 41, rfl⟩
abbrev main_while0b_v16 : Ref sig .tc := ⟨.hbm, 42, rfl⟩
abbrev main_while0b_v17 : Ref sig .tc := ⟨.hbm, 43, rfl⟩
abbrev main_while0b_cst_14 : Ref sig .tc := ⟨.hbm, 44, rfl⟩
abbrev main_while0b_v18 : Ref sig .tc := ⟨.hbm, 45, rfl⟩
abbrev main_while0b_v19 : Ref sig .tc := ⟨.hbm, 46, rfl⟩
abbrev main_while0b_v20 : Ref sig .tc := ⟨.hbm, 47, rfl⟩
abbrev main_while0b_v21 : Ref sig .tc := ⟨.hbm, 48, rfl⟩
abbrev main_while0b_v22 : Ref sig .tc := ⟨.hbm, 49, rfl⟩
abbrev main_while0b_v23 : Ref sig .tc := ⟨.hbm, 50, rfl⟩
abbrev main_while0b_v24 : Ref sig .tc := ⟨.hbm, 51, rfl⟩
abbrev main_while0b_v25 : Ref sig .tc := ⟨.hbm, 52, rfl⟩
abbrev main_while0b_v26 : Ref sig .tc := ⟨.hbm, 53, rfl⟩
abbrev main_while0b_cst_15 : Ref sig .tc := ⟨.hbm, 54, rfl⟩
abbrev main_while0b_v27 : Ref sig .tc := ⟨.hbm, 55, rfl⟩
abbrev main_while0b_v28 : Ref sig .tc := ⟨.hbm, 56, rfl⟩
abbrev main_while0b_v29 : Ref sig .tc := ⟨.hbm, 57, rfl⟩
abbrev main_while0b_cst_16 : Ref sig .tc := ⟨.hbm, 58, rfl⟩
abbrev main_while0b_v30 : Ref sig .tc := ⟨.hbm, 59, rfl⟩
abbrev main_while0b_v31 : Ref sig .tc := ⟨.hbm, 60, rfl⟩
abbrev main_while0b_v32 : Ref sig .tc := ⟨.hbm, 61, rfl⟩
abbrev main_while0b_cst_17 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_call1_v0 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_c_1 : Ref sig .tc := ⟨.hbm, 69, rfl⟩
abbrev main_while0b_v36 : Ref sig .tc := ⟨.hbm, 70, rfl⟩
abbrev main_while0b_c_18 : Ref sig .tc := ⟨.hbm, 71, rfl⟩
abbrev main_while0b_v37 : Ref sig .tc := ⟨.hbm, 72, rfl⟩
abbrev main_v6 : Ref sig .tc := ⟨.hbm, 73, rfl⟩

abbrev nD : Nat := 1
abbrev τ : Topo := Topo.v7x

variable {F : FTy → Type} [FloatOps F]

abbrev main_while0_count : Scf.Loop 32 := ⟨0#32, 16#32, 1#32⟩
-- ==== Proof.Neuron.lean ====
/-
  The mathematics of the problem, with no arrays in it: one row of the network — one batch entry and one sequence
  position — as a recurrence over time. Both programs are shown to compute `spikes` of this file, each in its own module.
-/
module

public import Idealize.ShloMosaic.Lib.Pointwise

@[expose] public section

noncomputable section

namespace Cert.Neuron

open Idealize.ShloMosaic
open scoped BigOperators

/-- The membrane potential `v` after it is charged by the input `u`: half the way from `v` to `u` (time constant 2). -/
def charge (v u : EReal) : EReal := v + (u - v) * ((1 / 2 : ℝ) : EReal)

/-- The spike of a potential: 1 from the threshold 1 on, 0 below it. -/
def fire (v : EReal) : EReal := if 1 ≤ v then 1 else 0

/-- The potential after the spike: reset to 0 where it fired. -/
def reset (v : EReal) : EReal := if 1 ≤ v then 0 else v

/-- The network's parameters, as functions of their indices. -/
structure Weights where
  /-- the recurrent weights, output first -/
  A : Fin 64 → Fin 64 → EReal
  /-- the input weights, output first -/
  B : Fin 64 → Fin 512 → EReal
  /-- the output weights, output first -/
  C : Fin 512 → Fin 64 → EReal
  /-- the output's bias -/
  D : Fin 512 → EReal

/-- What one row carries from one time step to the next: the hidden spikes and the two layers' potentials. -/
@[ext] structure Row where
  /-- the hidden layer's last spikes -/
  h : Fin 64 → EReal
  /-- the hidden layer's potentials -/
  v : Fin 64 → EReal
  /-- the output layer's potentials -/
  o : Fin 512 → EReal

/-- The hidden layer's potentials once charged by the last spikes and the input `x`. -/
def hiddenPot (W : Weights) (x : Fin 512 → EReal) (st : Row) (n : Fin 64) : EReal :=
  charge (st.v n) ((∑ k : Fin 64, st.h k * W.A n k) + ∑ k : Fin 512, x k * W.B n k)

/-- The output layer's potentials once charged by the hidden layer's new spikes and the input `x`. -/
def outputPot (W : Weights) (x : Fin 512 → EReal) (st : Row) (q : Fin 512) : EReal :=
  charge (st.o q) ((∑ k : Fin 64, fire (hiddenPot W x st k) * W.C q k) + x q + W.D q)

/-- One time step of a row. -/
def next (W : Weights) (x : Fin 512 → EReal) (st : Row) : Row where
  h n := fire (hiddenPot W x st n)
  v n := reset (hiddenPot W x st n)
  o q := reset (outputPot W x st q)

/-- Everything at rest. -/
def rest : Row where
  h _ := 0
  v _ := 0
  o _ := 0

/-- A row's state before time step `t`, of its inputs over time. -/
def rows (W : Weights) (x : ℕ → Fin 512 → EReal) : ℕ → Row
  | 0 => rest
  | t + 1 => next W (x t) (rows W x t)

/-- The row's output spikes at time step `t`. -/
def spikes (W : Weights) (x : ℕ → Fin 512 → EReal) (t : ℕ) (q : Fin 512) : EReal :=
  fire (outputPot W (x t) (rows W x t) q)

/-! ### The float operations' scalars -/

/-- The pattern of `0.5` is one half. -/
theorem half_f32 : Ideal.ofBits .f32 0x3F000000#32 = ((1 / 2 : ℝ) : EReal) := by
  simp [Ideal.ofBits, Ideal.ieee, -EReal.coe_mul]; norm_num

/-- The pattern of `2.0` is two. -/
theorem two_f32 : Ideal.ofBits .f32 0x40000000#32 = ((2 : ℝ) : EReal) := by
  simp [Ideal.ofBits, Ideal.ieee, -EReal.coe_mul]; norm_num

/-- The pattern of `1.0` is one. -/
theorem one_f32 : Ideal.ofBits .f32 0x3F800000#32 = (1 : EReal) := by
  simp [Ideal.ofBits, Ideal.ieee, -EReal.coe_mul]; norm_num

/-- The pattern of `0.0` is zero. -/
theorem zero_f32 : Ideal.ofBits .f32 0x00000000#32 = (0 : EReal) := by
  simp [Ideal.ofBits, Ideal.ieee, -EReal.coe_mul]

/-- Dividing by two is multiplying by one half. -/
theorem div_two (x : EReal) : Ideal.div x ((2 : ℝ) : EReal) = x * ((1 / 2 : ℝ) : EReal) :=
  Ideal.div_coe (two_ne_zero : (2 : ℝ) ≠ 0) x

/-- A comparison with the threshold, read as an unsigned integer, is the spike. -/
theorem fire_unsigned (v : EReal) : (((Ideal.cmp .oge v 1).toNat : ℝ) : EReal) = fire v := by
  unfold Ideal.cmp fire
  by_cases h : (1 : EReal) ≤ v <;> simp [h]

/-- A comparison with the threshold, widened to 32 bits and read as a signed integer, is the spike. -/
theorem fire_signed (v : EReal) : ((((Ideal.cmp .oge v 1).setWidth 32).toInt : ℝ) : EReal) = fire v := by
  unfold Ideal.cmp fire
  by_cases h : (1 : EReal) ≤ v <;> simp [h]

/-- Multiplying a potential by one minus its spike resets it (at the infinities too: zero times anything is zero). -/
theorem reset_mul (v : EReal) : v * (1 - fire v) = reset v := by
  unfold fire reset
  by_cases h : (1 : EReal) ≤ v
  · simp only [h, if_true]
    rw [show (1 : EReal) - 1 = 0 from by
      rw [← EReal.coe_one, ← EReal.coe_sub, sub_self, EReal.coe_zero], mul_zero]
  · simp [h]

end Cert.Neuron

end
-- ==== Proof.BlockSteps.lean ====
/-
  One time step of the kernel's body on a block of 1024 rows, as vector operations, and what it holds row by row:
  one step of the recurrence of Proof/Neuron.lean.
-/
module

public import proofs.«01_k».proof.Proof.Neuron
public import proofs.«01_k».proof.Proof.Gen.KernelIdeal

@[expose] public section

noncomputable section

namespace Cert.BlockSteps

open Idealize.ShloMosaic Cert.KernelIdeal Cert.KernelIdeal.Gen Cert.Neuron
open scoped BigOperators

/-- An array of extended reals of shape `S`. -/
abbrev Arr (S : Shape) : Type := FVec Ideal S .f32

/-- The parameters as the body reads them: the three weight matrices transposed (input first), the bias as a row. -/
structure Params where
  At : Arr S64x64
  Bt : Arr S512x64
  Ct : Arr S64x512
  D : Arr S1x512

/-- What the body carries from one time step to the next, for all rows at once. -/
structure Block where
  h : Arr S1024x64
  v : Arr S1024x64
  o : Arr S1024x512

/-- Where the potentials `z` reach the threshold. -/
def fires {S : Shape} (z : Arr S) : IVec S 1 := cmpf .oge z (broadcast S (Scalar.ofBits .f32 0x3F800000#32 : Ideal .f32))

/-- The spikes of the potentials `z`. -/
def spike {S : Shape} (z : Arr S) : Arr S := sitofp .f32 (extui 32 (fires z) natLt_1_32)

/-- The potentials `z` after their spikes. -/
def clear {S : Shape} (z : Arr S) : Arr S := select (fires z) (broadcast S (Scalar.ofBits .f32 0x00000000#32 : Ideal .f32)) z

/-- Potentials `v` charged by the inputs `u`. -/
def chargeBlk {S : Shape} (v u : Arr S) : Arr S :=
  addf v (mulf (subf u v) (broadcast S (Scalar.ofBits .f32 0x3F000000#32 : Ideal .f32)))

/-- The hidden layer's input: of its last spikes `h` and the step's inputs `x`. -/
def hiddenIn (a : Arr S64x64) (b : Arr S512x64) (h : Arr S1024x64) (x : Arr S1024x512) : Arr S1024x64 :=
  addf
    (matmul dot_S1024x64_S64x64_S1024x64_1_0_0_1_n_n none (truncf .bf16 h bitsLt_bf16_f32) a (constant S1024x64 .f32 0x00000000#32))
    (matmul dot_S1024x512_S512x64_S1024x64_1_0_0_1_n_n none (truncf .bf16 x bitsLt_bf16_f32) b (constant S1024x64 .f32 0x00000000#32))

/-- The output layer's input: of the hidden layer's new spikes `s`, the step's inputs `x` and the bias. -/
def outputIn (c : Arr S64x512) (d : Arr S1x512) (s : Arr S1024x64) (x : Arr S1024x512) : Arr S1024x512 :=
  addf (addf
    (matmul dot_S1024x64_S64x512_S1024x512_1_0_0_1_n_n none (truncf .bf16 s bitsLt_bf16_f32) c (constant S1024x512 .f32 0x00000000#32))
    x) (broadcastTo S1024x512 d broadcasts_S1x512_S1024x512)

/-- The charged hidden potentials. -/
def hiddenBlk (P : Params) (x : Arr S1024x512) (b : Block) : Arr S1024x64 :=
  chargeBlk b.v (hiddenIn P.At P.Bt b.h x)

/-- The charged output potentials. -/
def outputBlk (P : Params) (x : Arr S1024x512) (b : Block) : Arr S1024x512 :=
  chargeBlk b.o (outputIn P.Ct P.D (spike (hiddenBlk P x b)) x)

/-- One time step of the block. -/
def stepBlk (P : Params) (x : Arr S1024x512) (b : Block) : Block where
  h := spike (hiddenBlk P x b)
  v := clear (hiddenBlk P x b)
  o := clear (outputBlk P x b)

/-- The block's state before time step `t`, from the state `b`, on the inputs `x`. -/
def statesBlk (P : Params) (x : ℕ → Arr S1024x512) (b : Block) : ℕ → Block
  | 0 => b
  | t + 1 => stepBlk P (x t) (statesBlk P x b t)

/-- The block's output spikes at time step `t`. -/
def spikesBlk (P : Params) (x : ℕ → Arr S1024x512) (b : Block) (t : ℕ) : Arr S1024x512 :=
  spike (outputBlk P (x t) (statesBlk P x b t))

/-! ### Row by row -/

/-- Row `r` of a block's state. -/
def Block.row (b : Block) (r : Fin 1024) : Row where
  h n := b.h (ix2 r n)
  v n := b.v (ix2 r n)
  o q := b.o (ix2 r q)

/-- The parameters of the recurrence in the body's. -/
def Params.weights (P : Params) : Weights where
  A n k := P.At (ix2 k n)
  B n k := P.Bt (ix2 k n)
  C q k := P.Ct (ix2 k q)
  D q := P.D (ix2 0 q)

theorem spike_apply {S : Shape} (z : Arr S) (i : S.Idx) : spike z i = fire (z i) := by
  unfold spike fires
  pointwise
  exact fire_signed _

theorem clear_apply {S : Shape} (z : Arr S) (i : S.Idx) : clear z i = reset (z i) := by
  unfold clear fires
  pointwise
  rfl

theorem hiddenBlk_apply (P : Params) (x : Arr S1024x512) (b : Block) (r : Fin 1024) (n : Fin 64) :
    hiddenBlk P x b (ix2 r n) = hiddenPot P.weights (fun q => x (ix2 r q)) (b.row r) n := by
  unfold hiddenBlk chargeBlk hiddenIn hiddenPot charge
  pointwise [dot_S1024x64_S64x64_S1024x64_1_0_0_1_n_n, dot_S1024x512_S512x64_S1024x64_1_0_0_1_n_n]
  rw [half_f32]
  rfl

theorem outputBlk_apply (P : Params) (x : Arr S1024x512) (b : Block) (r : Fin 1024) (q : Fin 512) :
    outputBlk P x b (ix2 r q) = outputPot P.weights (fun q => x (ix2 r q)) (b.row r) q := by
  unfold outputBlk chargeBlk outputIn outputPot charge
  pointwise [dot_S1024x64_S64x512_S1024x512_1_0_0_1_n_n]
  rw [half_f32]
  simp only [spike_apply, hiddenBlk_apply]
  rfl

/-- One time step of the block is, in each row, one step of the recurrence. -/
theorem stepBlk_row (P : Params) (x : Arr S1024x512) (b : Block) (r : Fin 1024) :
    (stepBlk P x b).row r = next P.weights (fun q => x (ix2 r q)) (b.row r) := by
  ext n
  · exact (spike_apply _ _).trans (congrArg fire (hiddenBlk_apply P x b r n))
  · exact (clear_apply _ _).trans (congrArg reset (hiddenBlk_apply P x b r n))
  · exact (clear_apply _ _).trans (congrArg reset (outputBlk_apply P x b r n))

/-- From a state whose row `r` is the recurrence's before time step `t₀`, the block's later states are the recurrence's later ones. -/
theorem statesBlk_row (P : Params) (x : ℕ → Arr S1024x512) (b : Block) (r : Fin 1024) (X : ℕ → Fin 512 → EReal) (t₀ : ℕ)
    (hb : b.row r = rows P.weights X t₀) (k : ℕ) (hx : ∀ t, t < k → (fun q => x t (ix2 r q)) = X (t₀ + t)) :
    (statesBlk P x b k).row r = rows P.weights X (t₀ + k) := by
  induction k with
  | zero => exact hb
  | succ k ih =>
    rw [statesBlk, stepBlk_row, ih fun t ht => hx t (by omega), hx k (by omega)]
    rfl

/-- … and its output spikes are the recurrence's. -/
theorem spikesBlk_row (P : Params) (x : ℕ → Arr S1024x512) (b : Block) (r : Fin 1024) (X : ℕ → Fin 512 → EReal) (t₀ : ℕ)
    (hb : b.row r = rows P.weights X t₀) (k : ℕ) (hx : ∀ t, t < k + 1 → (fun q => x t (ix2 r q)) = X (t₀ + t)) (q : Fin 512) :
    spikesBlk P x b k (ix2 r q) = spikes P.weights X (t₀ + k) q := by
  unfold spikesBlk spikes
  rw [spike_apply, outputBlk_apply, statesBlk_row P x b r X t₀ hb k fun t ht => hx t (by omega), hx k (by omega)]

end Cert.BlockSteps

end
-- ==== Proof.BodyValues.lean ====
/-
  The body's values between its loads and its stores, each as a vector operation of Proof/BlockSteps.lean, and the
  blocks they come from and go to, cut into time steps.
-/
module

public import proofs.«01_k».proof.Proof.BlockSteps
public import proofs.«01_k».proof.Proof.Gen.KernelIdeal.Skeleton
public import Idealize.ShloMosaic.Lib.Pipeline.Value
public import Idealize.ShloMosaic.Lib.Pointwise

@[expose] public section

noncomputable section

namespace Cert.BodyValues

open Idealize.ShloMosaic Cert.KernelIdeal Cert.KernelIdeal.Gen Cert.Neuron Cert.BlockSteps

/-! ### The body's values, operation by operation, as those of Proof/BlockSteps.lean -/

section Values

variable (a : Arr S64x64) (b : Arr S512x64) (c : Arr S64x512) (d : Arr S1x512) (h v : Arr S1024x64) (o u x : Arr S1024x512)
  (y : Arr S1x1x1024x512)

/-- One time step's inputs, cut from a block and viewed as a matrix. -/
abbrev flat (y : Arr S1x1x1024x512) : Arr S1024x512 := shapeCast S1024x512 y shapeCasts_S1x1x1024x512_S1024x512

/-- A matrix viewed as one time step of a block. -/
abbrev unflat (z : Arr S1024x512) : Arr S1x1x1024x512 := shapeCast S1x1x1024x512 z shapeCasts_S1024x512_S1x1x1024x512

theorem pay1 : k0_pay1 (F := Ideal) o = unflat o := rfl

theorem pay2 : k0_pay2 (F := Ideal) h = h := shapeCast_self _ _

theorem pay3 : k0_pay3 (F := Ideal) h = h := shapeCast_self _ _

theorem pay4 : k0_pay4 (F := Ideal) o = o := shapeCast_self _ _

theorem pay8 : k0_pay8 (F := Ideal) a = a := shapeCast_self _ _

theorem pay9 : k0_pay9 (F := Ideal) b = b := shapeCast_self _ _

theorem pay10 : k0_pay10 (F := Ideal) c = c := shapeCast_self _ _

theorem pay11 : k0_pay11 (F := Ideal) d = d := shapeCast_self _ _

theorem pay12 : k0_pay12 (F := Ideal) y = flat y := rfl

theorem pay15 : k0_pay15 (F := Ideal) a b h v y = spike (chargeBlk v (hiddenIn a b h (flat y))) := by
  unfold_payloads
  simp only [shapeCast_self]
  rfl

theorem pay16 : k0_pay16 (F := Ideal) a b h v y = clear (chargeBlk v (hiddenIn a b h (flat y))) := by
  unfold_payloads
  simp only [shapeCast_self]
  rfl

theorem pay19 : k0_pay19 (F := Ideal) c d o x h = clear (chargeBlk o (outputIn c d h x)) := rfl

theorem pay20 : k0_pay20 (F := Ideal) c d o x h = unflat (spike (chargeBlk o (outputIn c d h x))) := rfl

theorem pay24 : k0_pay24 (F := Ideal) a b h v y = spike (chargeBlk v (hiddenIn a b h (flat y))) := rfl

theorem pay25 : k0_pay25 (F := Ideal) a b h v y = clear (chargeBlk v (hiddenIn a b h (flat y))) := rfl

theorem pay26 : k0_pay26 (F := Ideal) a b c d o x h v y = subf (outputIn c d (spike (chargeBlk v (hiddenIn a b h (flat y)))) (flat y)) (clear (chargeBlk o (outputIn c d h x))) := rfl

theorem pay29 : k0_pay29 (F := Ideal) o (subf u o) = unflat (spike (chargeBlk o u)) := rfl

theorem pay33 : k0_pay33 (F := Ideal) a b h v y = spike (chargeBlk v (hiddenIn a b h (flat y))) := rfl

theorem pay34 : k0_pay34 (F := Ideal) a b h v y = clear (chargeBlk v (hiddenIn a b h (flat y))) := rfl

theorem pay35 : k0_pay35 (F := Ideal) a b c d o h v (subf u o) y = chargeBlk (clear (chargeBlk o u)) (outputIn c d (spike (chargeBlk v (hiddenIn a b h (flat y)))) (flat y)) := rfl

theorem pay36 : k0_pay36 (F := Ideal) a b c d o h v (subf u o) y = fires (chargeBlk (clear (chargeBlk o u)) (outputIn c d (spike (chargeBlk v (hiddenIn a b h (flat y)))) (flat y))) := rfl

theorem pay37 : k0_pay37 (F := Ideal) (fires o) = unflat (spike o) := rfl

theorem pay41 : k0_pay41 (F := Ideal) a b h v y = spike (chargeBlk v (hiddenIn a b h (flat y))) := rfl

theorem pay42 : k0_pay42 (F := Ideal) a b h v y = clear (chargeBlk v (hiddenIn a b h (flat y))) := rfl

theorem pay45 : k0_pay45 (F := Ideal) a b c d h v o (fires o) y = spike (chargeBlk (clear o) (outputIn c d (spike (chargeBlk v (hiddenIn a b h (flat y)))) (flat y))) := rfl

theorem pay46 : k0_pay46 (F := Ideal) a b c d h v o (fires o) y = clear (chargeBlk (clear o) (outputIn c d (spike (chargeBlk v (hiddenIn a b h (flat y)))) (flat y))) := rfl

end Values

/-! ### A block's time steps -/

/-- The four time steps of an input block, each as a matrix of 1024 rows. -/
def slabs (x0 : Arr S1x4x1024x512) (t : ℕ) : Arr S1024x512 := fun i =>
  if h : t < 4 then x0 (ix4 0 ⟨t, h⟩ (i 0) (i 1)) else 0

/-- A load of one time step of the block, viewed as a matrix, is that time step. -/
theorem flat_ld (x0 : Arr S1x4x1024x512) (t : ℕ) (ht : t < 4)
    (inb : ∀ a, (![0, t, 0, 0] : Fin 4 → ℕ) a + S1x1x1024x512.size a ≤ S1x4x1024x512.size a) :
    flat (View.ld (Val := Elt Ideal) (e' := .f32) x0 (Rect.unit (s := S1x4x1024x512) ![0, t, 0, 0] S1x1x1024x512.size inb)) = slabs x0 t := by
  rw [View.ld_unit]
  funext i
  rw [eq_ix2 i]
  unfold flat slabs
  rw [dif_pos ht]
  pointwise

/-- A block's state at rest: the zeros the body stores where a batch entry starts. -/
def restBlk : Block where
  h := k0_pay5
  v := k0_pay6
  o := k0_pay7

/-- Every row of it is at rest. -/
theorem restBlk_row (r : Fin 1024) : restBlk.row r = rest := by
  ext n
  · show k0_pay5 (F := Ideal) (ix2 r n) = 0
    unfold_payloads; pointwise
  · show k0_pay6 (F := Ideal) (ix2 r n) = 0
    unfold_payloads; pointwise
  · show k0_pay7 (F := Ideal) (ix2 r n) = 0
    unfold_payloads; pointwise

/-- The output block whose four time steps are the spikes of the states from `b`. -/
def outBlk (P : Params) (x : ℕ → Arr S1024x512) (b : Block) : Arr S1x4x1024x512 := fun i =>
  spikesBlk P x b (i 1).val (ix2 (i 2) (i 3))

/-- The matrix a store writes at time step `t` of the output block is that block's time step. -/
theorem unflat_out (P : Params) (x : ℕ → Arr S1024x512) (b : Block) (t : ℕ)
    (inb : ∀ a, (![0, t, 0, 0] : Fin 4 → ℕ) a + S1x1x1024x512.size a ≤ S1x4x1024x512.size a)
    (y : S1x1x1024x512.Idx) :
    unflat (spikesBlk P x b t) y
      = outBlk P x b ((Rect.unit (s := S1x4x1024x512) ![0, t, 0, 0] S1x1x1024x512.size inb).emb y) := by
  have h1 : (((Rect.unit (s := S1x4x1024x512) ![0, t, 0, 0] S1x1x1024x512.size inb).emb y) 1).val = t := by
    show t + 1 * (y 1).val = t
    have : (y 1).val < 1 := (y 1).isLt
    omega
  have h2 : ((Rect.unit (s := S1x4x1024x512) ![0, t, 0, 0] S1x1x1024x512.size inb).emb y) 2 = y 2 :=
    Fin.ext (show 0 + 1 * (y 2).val = (y 2).val by omega)
  have h3 : ((Rect.unit (s := S1x4x1024x512) ![0, t, 0, 0] S1x1x1024x512.size inb).emb y) 3 = y 3 :=
    Fin.ext (show 0 + 1 * (y 3).val = (y 3).val by omega)
  unfold outBlk unflat
  rw [h1, h2, h3]
  pointwise

end Cert.BodyValues

end
-- ==== Proof.PointValue.lean ====
/-
  What the kernel's body leaves at one grid point: the pieces its stores leave, read back, are four time steps of
  Proof/BlockSteps.lean — from rest where the point starts a batch entry, and from what the point before left elsewhere.
-/
module

public import proofs.«01_k».proof.Proof.BodyValues
public import proofs.«01_k».proof.Proof.Gen.KernelIdeal.Value

@[expose] public section

noncomputable section

namespace Cert.PointValue

open Idealize.ShloMosaic Cert.KernelIdeal Cert.KernelIdeal.Gen Cert.Neuron Cert.BlockSteps Cert.BodyValues

theorem zeros2 : (![0, 0] : Fin 2 → ℕ) = fun _ => 0 := by decide

section Cases

variable (c : Dev nD) (i : grid0.Coords)
  (arg3 : Memref sig .tc .vmem S1x4x1024x512 .f32) (harg3 : arg3.IsWhole) (arg4 : Memref sig .tc .vmem S64x64 .f32) (harg4 : arg4.IsWhole)
  (arg5 : Memref sig .tc .vmem S512x64 .f32) (harg5 : arg5.IsWhole) (arg6 : Memref sig .tc .vmem S64x512 .f32) (harg6 : arg6.IsWhole)
  (arg7 : Memref sig .tc .vmem S1x512 .f32) (harg7 : arg7.IsWhole) (arg8 : Memref sig .tc .vmem S1x4x1024x512 .f32) (harg8 : arg8.IsWhole)
  (arg9 : Memref sig .tc .vmem S1024x64 .f32) (harg9 : arg9.IsWhole) (arg10 : Memref sig .tc .vmem S1024x64 .f32) (harg10 : arg10.IsWhole)
  (arg11 : Memref sig .tc .vmem S1024x512 .f32) (harg11 : arg11.IsWhole)
  (x0 : Arr S1x4x1024x512) (x1 : Arr S64x64) (x2 : Arr S512x64) (x3 : Arr S64x512) (x4 : Arr S1x512)
  (xs0 xs1 : Arr S1024x64) (xs2 : Arr S1024x512)

/-- At a point that starts a batch entry, the hidden spikes left are those after four time steps. -/
theorem state_A_h (hc0 : cond0_0 i) :
    sout0_A_0 (F := Ideal) c i arg3 harg3 arg4 harg4 arg5 harg5 arg6 harg6 arg7 harg7 arg8 harg8 arg9 harg9 arg10 harg10 arg11 harg11
    hc0 x0 x1 x2 x3 x4
      = (statesBlk ⟨x1, x2, x3, x4⟩ (slabs x0) restBlk 4).h := by
  unfold sout0_A_0
  rw [View.read_writes_eq_canon _ _ _ (scover0_A_0 (F := Ideal) c i arg3 harg3 arg4 harg4 arg5 harg5 arg6 harg6 arg7 harg7 arg8 harg8 arg9 harg9 arg10 harg10 arg11 harg11
    hc0 x0 x1 x2 x3 x4)]
  unfold kernelRun0_A
  dsimp only
  sl_unfold_words
  rw [View.canon_cons_unit_zero (S := S1024x64) zeros2]
  simp only [View.readAt_eq_ld, harg3.read_unread, harg4.read_unread, harg5.read_unread, harg6.read_unread, harg7.read_unread,
    harg9.read_unread, harg10.read_unread, harg11.read_unread, View.ld_unit_zero (S := S64x64) zeros2, View.ld_unit_zero (S := S512x64) zeros2,
    View.ld_unit_zero (S := S64x512) zeros2, View.ld_unit_zero (S := S1x512) zeros2, View.ld_unit_zero (S := S1024x64) zeros2,
    View.ld_unit_zero (S := S1024x512) zeros2, View.readCov_unit_zero (S := S1024x64) _ zeros2, View.readCov_unit_zero (S := S1024x512) _ zeros2,
    pay1, pay2, pay3, pay4, pay8, pay9, pay10, pay11, pay12, pay15, pay16, pay19, pay20, pay24, pay25, pay26, pay29, pay33, pay34,
    pay35, pay36, pay37, pay41, pay42, pay45, pay46,
    flat_ld x0 0 (by decide), flat_ld x0 1 (by decide), flat_ld x0 2 (by decide), flat_ld x0 3 (by decide),
    statesBlk, stepBlk, hiddenBlk, outputBlk, restBlk]

/-- At a point that starts a batch entry, the hidden potentials left are those after four time steps. -/
theorem state_A_v (hc0 : cond0_0 i) :
    sout0_A_1 (F := Ideal) c i arg3 harg3 arg4 harg4 arg5 harg5 arg6 harg6 arg7 harg7 arg8 harg8 arg9 harg9 arg10 harg10 arg11 harg11
    hc0 x0 x1 x2 x3 x4
      = (statesBlk ⟨x1, x2, x3, x4⟩ (slabs x0) restBlk 4).v := by
  unfold sout0_A_1
  rw [View.read_writes_eq_canon _ _ _ (scover0_A_1 (F := Ideal) c i arg3 harg3 arg4 harg4 arg5 harg5 arg6 harg6 arg7 harg7 arg8 harg8 arg9 harg9 arg10 harg10 arg11 harg11
    hc0 x0 x1 x2 x3 x4)]
  unfold kernelRun0_A
  dsimp only
  sl_unfold_words
  rw [View.canon_cons_unit_zero (S := S1024x64) zeros2]
  simp only [View.readAt_eq_ld, harg3.read_unread, harg4.read_unread, harg5.read_unread, harg6.read_unread, harg7.read_unread,
    harg9.read_unread, harg10.read_unread, harg11.read_unread, View.ld_unit_zero (S := S64x64) zeros2, View.ld_unit_zero (S := S512x64) zeros2,
    View.ld_unit_zero (S := S64x512) zeros2, View.ld_unit_zero (S := S1x512) zeros2, View.ld_unit_zero (S := S1024x64) zeros2,
    View.ld_unit_zero (S := S1024x512) zeros2, View.readCov_unit_zero (S := S1024x64) _ zeros2, View.readCov_unit_zero (S := S1024x512) _ zeros2,
    pay1, pay2, pay3, pay4, pay8, pay9, pay10, pay11, pay12, pay15, pay16, pay19, pay20, pay24, pay25, pay26, pay29, pay33, pay34,
    pay35, pay36, pay37, pay41, pay42, pay45, pay46,
    flat_ld x0 0 (by decide), flat_ld x0 1 (by decide), flat_ld x0 2 (by decide), flat_ld x0 3 (by decide),
    statesBlk, stepBlk, hiddenBlk, outputBlk, restBlk]

/-- At a point that starts a batch entry, the output potentials left are those after four time steps. -/
theorem state_A_o (hc0 : cond0_0 i) :
    sout0_A_2 (F := Ideal) c i arg3 harg3 arg4 harg4 arg5 harg5 arg6 harg6 arg7 harg7 arg8 harg8 arg9 harg9 arg10 harg10 arg11 harg11
    hc0 x0 x1 x2 x3 x4
      = (statesBlk ⟨x1, x2, x3, x4⟩ (slabs x0) restBlk 4).o := by
  unfold sout0_A_2
  rw [View.read_writes_eq_canon _ _ _ (scover0_A_2 (F := Ideal) c i arg3 harg3 arg4 harg4 arg5 harg5 arg6 harg6 arg7 harg7 arg8 harg8 arg9 harg9 arg10 harg10 arg11 harg11
    hc0 x0 x1 x2 x3 x4)]
  unfold kernelRun0_A
  dsimp only
  sl_unfold_words
  rw [View.canon_cons_unit_zero (S := S1024x512) zeros2]
  simp only [View.readAt_eq_ld, harg3.read_unread, harg4.read_unread, harg5.read_unread, harg6.read_unread, harg7.read_unread,
    harg9.read_unread, harg10.read_unread, harg11.read_unread, View.ld_unit_zero (S := S64x64) zeros2, View.ld_unit_zero (S := S512x64) zeros2,
    View.ld_unit_zero (S := S64x512) zeros2, View.ld_unit_zero (S := S1x512) zeros2, View.ld_unit_zero (S := S1024x64) zeros2,
    View.ld_unit_zero (S := S1024x512) zeros2, View.readCov_unit_zero (S := S1024x64) _ zeros2, View.readCov_unit_zero (S := S1024x512) _ zeros2,
    pay1, pay2, pay3, pay4, pay8, pay9, pay10, pay11, pay12, pay15, pay16, pay19, pay20, pay24, pay25, pay26, pay29, pay33, pay34,
    pay35, pay36, pay37, pay41, pay42, pay45, pay46,
    flat_ld x0 0 (by decide), flat_ld x0 1 (by decide), flat_ld x0 2 (by decide), flat_ld x0 3 (by decide),
    statesBlk, stepBlk, hiddenBlk, outputBlk, restBlk]

/-- At a point that starts a batch entry, the block written out is the spikes of the four time steps. -/
theorem out_A (hc0 : cond0_0 i) :
    out0_A_5 (F := Ideal) c i arg3 harg3 arg4 harg4 arg5 harg5 arg6 harg6 arg7 harg7 arg8 harg8 arg9 harg9 arg10 harg10 arg11 harg11
    hc0 x0 x1 x2 x3 x4
      = outBlk ⟨x1, x2, x3, x4⟩ (slabs x0) restBlk := by
  unfold out0_A_5
  rw [View.read_writes_eq_canon _ _ _ (cover0_A_5 (F := Ideal) c i arg3 harg3 arg4 harg4 arg5 harg5 arg6 harg6 arg7 harg7 arg8 harg8 arg9 harg9 arg10 harg10 arg11 harg11
    hc0 x0 x1 x2 x3 x4)]
  have hcov := cover0_A_5 (F := Ideal) c i arg3 harg3 arg4 harg4 arg5 harg5 arg6 harg6 arg7 harg7 arg8 harg8 arg9 harg9 arg10 harg10 arg11 harg11
    hc0 x0 x1 x2 x3 x4
  revert hcov
  unfold kernelRun0_A
  dsimp only
  sl_unfold_words
  simp only [View.readAt_eq_ld, harg3.read_unread, harg4.read_unread, harg5.read_unread, harg6.read_unread, harg7.read_unread,
    harg9.read_unread, harg10.read_unread, harg11.read_unread, View.ld_unit_zero (S := S64x64) zeros2, View.ld_unit_zero (S := S512x64) zeros2,
    View.ld_unit_zero (S := S64x512) zeros2, View.ld_unit_zero (S := S1x512) zeros2, View.ld_unit_zero (S := S1024x64) zeros2,
    View.ld_unit_zero (S := S1024x512) zeros2, View.readCov_unit_zero (S := S1024x64) _ zeros2, View.readCov_unit_zero (S := S1024x512) _ zeros2,
    pay1, pay2, pay3, pay4, pay8, pay9, pay10, pay11, pay12, pay15, pay16, pay19, pay20, pay24, pay25, pay26, pay29, pay33, pay34,
    pay35, pay36, pay37, pay41, pay42, pay45, pay46,
    flat_ld x0 0 (by decide), flat_ld x0 1 (by decide), flat_ld x0 2 (by decide), flat_ld x0 3 (by decide)]
  intro hcov
  funext y
  refine View.canon_apply_of_pieces (outBlk ⟨x1, x2, x3, x4⟩ (slabs x0) restBlk) _ (fun p hp => ?_) y (hcov y)
  simp only [List.mem_cons, List.not_mem_nil, or_false] at hp
  rcases hp with rfl | rfl | rfl | rfl
  · have h := unflat_out ⟨x1, x2, x3, x4⟩ (slabs x0) restBlk 3 inb_S1x4x1024x512_S1x1x1024x512_0_3_0_0
    simp only [spikesBlk, statesBlk, stepBlk, hiddenBlk, outputBlk, restBlk] at h
    exact h
  · have h := unflat_out ⟨x1, x2, x3, x4⟩ (slabs x0) restBlk 2 inb_S1x4x1024x512_S1x1x1024x512_0_2_0_0
    simp only [spikesBlk, statesBlk, stepBlk, hiddenBlk, outputBlk, restBlk] at h
    exact h
  · have h := unflat_out ⟨x1, x2, x3, x4⟩ (slabs x0) restBlk 1 inb_S1x4x1024x512_S1x1x1024x512_0_1_0_0
    simp only [spikesBlk, statesBlk, stepBlk, hiddenBlk, outputBlk, restBlk] at h
    exact h
  · have h := unflat_out ⟨x1, x2, x3, x4⟩ (slabs x0) restBlk 0 inb_S1x4x1024x512_S1x1x1024x512_0_0_0_0
    simp only [spikesBlk, statesBlk, stepBlk, hiddenBlk, outputBlk, restBlk] at h
    exact h

/-- At any other point, the hidden spikes left are those after four time steps. -/
theorem state_B_h (hc0 : ¬cond0_0 i) :
    sout0_B_0 (F := Ideal) c i arg3 harg3 arg4 harg4 arg5 harg5 arg6 harg6 arg7 harg7 arg8 harg8 arg9 harg9 arg10 harg10 arg11 harg11
    hc0 x0 x1 x2 x3 x4 xs0 xs1 xs2
      = (statesBlk ⟨x1, x2, x3, x4⟩ (slabs x0) ⟨xs0, xs1, xs2⟩ 4).h := by
  unfold sout0_B_0
  rw [View.read_writes_eq_canon _ _ _ (scover0_B_0 (F := Ideal) c i arg3 harg3 arg4 harg4 arg5 harg5 arg6 harg6 arg7 harg7 arg8 harg8 arg9 harg9 arg10 harg10 arg11 harg11
    hc0 x0 x1 x2 x3 x4 xs0 xs1 xs2)]
  unfold kernelRun0_B
  dsimp only
  sl_unfold_words
  rw [View.canon_unit_zero (S := S1024x64) zeros2]
  simp only [View.readAt_eq_ld, harg3.read_unread, harg4.read_unread, harg5.read_unread, harg6.read_unread, harg7.read_unread,
    harg9.read_unread, harg10.read_unread, harg11.read_unread, View.ld_unit_zero (S := S64x64) zeros2, View.ld_unit_zero (S := S512x64) zeros2,
    View.ld_unit_zero (S := S64x512) zeros2, View.ld_unit_zero (S := S1x512) zeros2, View.ld_unit_zero (S := S1024x64) zeros2,
    View.ld_unit_zero (S := S1024x512) zeros2, View.readCov_unit_zero (S := S1024x64) _ zeros2, View.readCov_unit_zero (S := S1024x512) _ zeros2,
    pay1, pay2, pay3, pay4, pay8, pay9, pay10, pay11, pay12, pay15, pay16, pay19, pay20, pay24, pay25, pay26, pay29, pay33, pay34,
    pay35, pay36, pay37, pay41, pay42, pay45, pay46,
    flat_ld x0 0 (by decide), flat_ld x0 1 (by decide), flat_ld x0 2 (by decide), flat_ld x0 3 (by decide),
    statesBlk, stepBlk, hiddenBlk, outputBlk]

/-- At any other point, the hidden potentials left are those after four time steps. -/
theorem state_B_v (hc0 : ¬cond0_0 i) :
    sout0_B_1 (F := Ideal) c i arg3 harg3 arg4 harg4 arg5 harg5 arg6 harg6 arg7 harg7 arg8 harg8 arg9 harg9 arg10 harg10 arg11 harg11
    hc0 x0 x1 x2 x3 x4 xs0 xs1 xs2
      = (statesBlk ⟨x1, x2, x3, x4⟩ (slabs x0) ⟨xs0, xs1, xs2⟩ 4).v := by
  unfold sout0_B_1
  rw [View.read_writes_eq_canon _ _ _ (scover0_B_1 (F := Ideal) c i arg3 harg3 arg4 harg4 arg5 harg5 arg6 harg6 arg7 harg7 arg8 harg8 arg9 harg9 arg10 harg10 arg11 harg11
    hc0 x0 x1 x2 x3 x4 xs0 xs1 xs2)]
  unfold kernelRun0_B
  dsimp only
  sl_unfold_words
  rw [View.canon_unit_zero (S := S1024x64) zeros2]
  simp only [View.readAt_eq_ld, harg3.read_unread, harg4.read_unread, harg5.read_unread, harg6.read_unread, harg7.read_unread,
    harg9.read_unread, harg10.read_unread, harg11.read_unread, View.ld_unit_zero (S := S64x64) zeros2, View.ld_unit_zero (S := S512x64) zeros2,
    View.ld_unit_zero (S := S64x512) zeros2, View.ld_unit_zero (S := S1x512) zeros2, View.ld_unit_zero (S := S1024x64) zeros2,
    View.ld_unit_zero (S := S1024x512) zeros2, View.readCov_unit_zero (S := S1024x64) _ zeros2, View.readCov_unit_zero (S := S1024x512) _ zeros2,
    pay1, pay2, pay3, pay4, pay8, pay9, pay10, pay11, pay12, pay15, pay16, pay19, pay20, pay24, pay25, pay26, pay29, pay33, pay34,
    pay35, pay36, pay37, pay41, pay42, pay45, pay46,
    flat_ld x0 0 (by decide), flat_ld x0 1 (by decide), flat_ld x0 2 (by decide), flat_ld x0 3 (by decide),
    statesBlk, stepBlk, hiddenBlk, outputBlk]

/-- At any other point, the output potentials left are those after four time steps. -/
theorem state_B_o (hc0 : ¬cond0_0 i) :
    sout0_B_2 (F := Ideal) c i arg3 harg3 arg4 harg4 arg5 harg5 arg6 harg6 arg7 harg7 arg8 harg8 arg9 harg9 arg10 harg10 arg11 harg11
    hc0 x0 x1 x2 x3 x4 xs0 xs1 xs2
      = (statesBlk ⟨x1, x2, x3, x4⟩ (slabs x0) ⟨xs0, xs1, xs2⟩ 4).o := by
  unfold sout0_B_2
  rw [View.read_writes_eq_canon _ _ _ (scover0_B_2 (F := Ideal) c i arg3 harg3 arg4 harg4 arg5 harg5 arg6 harg6 arg7 harg7 arg8 harg8 arg9 harg9 arg10 harg10 arg11 harg11
    hc0 x0 x1 x2 x3 x4 xs0 xs1 xs2)]
  unfold kernelRun0_B
  dsimp only
  sl_unfold_words
  rw [View.canon_unit_zero (S := S1024x512) zeros2]
  simp only [View.readAt_eq_ld, harg3.read_unread, harg4.read_unread, harg5.read_unread, harg6.read_unread, harg7.read_unread,
    harg9.read_unread, harg10.read_unread, harg11.read_unread, View.ld_unit_zero (S := S64x64) zeros2, View.ld_unit_zero (S := S512x64) zeros2,
    View.ld_unit_zero (S := S64x512) zeros2, View.ld_unit_zero (S := S1x512) zeros2, View.ld_unit_zero (S := S1024x64) zeros2,
    View.ld_unit_zero (S := S1024x512) zeros2, View.readCov_unit_zero (S := S1024x64) _ zeros2, View.readCov_unit_zero (S := S1024x512) _ zeros2,
    pay1, pay2, pay3, pay4, pay8, pay9, pay10, pay11, pay12, pay15, pay16, pay19, pay20, pay24, pay25, pay26, pay29, pay33, pay34,
    pay35, pay36, pay37, pay41, pay42, pay45, pay46,
    flat_ld x0 0 (by decide), flat_ld x0 1 (by decide), flat_ld x0 2 (by decide), flat_ld x0 3 (by decide),
    statesBlk, stepBlk, hiddenBlk, outputBlk]

/-- At any other point, the block written out is the spikes of the four time steps. -/
theorem out_B (hc0 : ¬cond0_0 i) :
    out0_B_5 (F := Ideal) c i arg3 harg3 arg4 harg4 arg5 harg5 arg6 harg6 arg7 harg7 arg8 harg8 arg9 harg9 arg10 harg10 arg11 harg11
    hc0 x0 x1 x2 x3 x4 xs0 xs1 xs2
      = outBlk ⟨x1, x2, x3, x4⟩ (slabs x0) ⟨xs0, xs1, xs2⟩ := by
  unfold out0_B_5
  rw [View.read_writes_eq_canon _ _ _ (cover0_B_5 (F := Ideal) c i arg3 harg3 arg4 harg4 arg5 harg5 arg6 harg6 arg7 harg7 arg8 harg8 arg9 harg9 arg10 harg10 arg11 harg11
    hc0 x0 x1 x2 x3 x4 xs0 xs1 xs2)]
  have hcov := cover0_B_5 (F := Ideal) c i arg3 harg3 arg4 harg4 arg5 harg5 arg6 harg6 arg7 harg7 arg8 harg8 arg9 harg9 arg10 harg10 arg11 harg11
    hc0 x0 x1 x2 x3 x4 xs0 xs1 xs2
  revert hcov
  unfold kernelRun0_B
  dsimp only
  sl_unfold_words
  simp only [View.readAt_eq_ld, harg3.read_unread, harg4.read_unread, harg5.read_unread, harg6.read_unread, harg7.read_unread,
    harg9.read_unread, harg10.read_unread, harg11.read_unread, View.ld_unit_zero (S := S64x64) zeros2, View.ld_unit_zero (S := S512x64) zeros2,
    View.ld_unit_zero (S := S64x512) zeros2, View.ld_unit_zero (S := S1x512) zeros2, View.ld_unit_zero (S := S1024x64) zeros2,
    View.ld_unit_zero (S := S1024x512) zeros2, View.readCov_unit_zero (S := S1024x64) _ zeros2, View.readCov_unit_zero (S := S1024x512) _ zeros2,
    pay1, pay2, pay3, pay4, pay8, pay9, pay10, pay11, pay12, pay15, pay16, pay19, pay20, pay24, pay25, pay26, pay29, pay33, pay34,
    pay35, pay36, pay37, pay41, pay42, pay45, pay46,
    flat_ld x0 0 (by decide), flat_ld x0 1 (by decide), flat_ld x0 2 (by decide), flat_ld x0 3 (by decide)]
  intro hcov
  funext y
  refine View.canon_apply_of_pieces (outBlk ⟨x1, x2, x3, x4⟩ (slabs x0) ⟨xs0, xs1, xs2⟩) _ (fun p hp => ?_) y (hcov y)
  simp only [List.mem_cons, List.not_mem_nil, or_false] at hp
  rcases hp with rfl | rfl | rfl | rfl
  · have h := unflat_out ⟨x1, x2, x3, x4⟩ (slabs x0) ⟨xs0, xs1, xs2⟩ 3 inb_S1x4x1024x512_S1x1x1024x512_0_3_0_0
    simp only [spikesBlk, statesBlk, stepBlk, hiddenBlk, outputBlk] at h
    exact h
  · have h := unflat_out ⟨x1, x2, x3, x4⟩ (slabs x0) ⟨xs0, xs1, xs2⟩ 2 inb_S1x4x1024x512_S1x1x1024x512_0_2_0_0
    simp only [spikesBlk, statesBlk, stepBlk, hiddenBlk, outputBlk] at h
    exact h
  · have h := unflat_out ⟨x1, x2, x3, x4⟩ (slabs x0) ⟨xs0, xs1, xs2⟩ 1 inb_S1x4x1024x512_S1x1x1024x512_0_1_0_0
    simp only [spikesBlk, statesBlk, stepBlk, hiddenBlk, outputBlk] at h
    exact h
  · have h := unflat_out ⟨x1, x2, x3, x4⟩ (slabs x0) ⟨xs0, xs1, xs2⟩ 0 inb_S1x4x1024x512_S1x1x1024x512_0_0_0_0
    simp only [spikesBlk, statesBlk, stepBlk, hiddenBlk, outputBlk] at h
    exact h

end Cases

end Cert.PointValue

end
-- ==== Proof.RefSteps.lean ====
/-
  What the reference computes: before trip `k` of its loop the carried arrays hold, row by row, the recurrence of
  Proof/Neuron.lean before time step `k`, and the stacked output holds the spikes of the time steps before `k`.
-/
module

public import proofs.«01_k».proof.Proof.Neuron
public import proofs.«01_k».proof.Proof.Gen.ReferenceIdeal.Step
public import Idealize.ShloMosaic.Lib.DynamicIndex
public import Idealize.ShloMosaic.Lib.Pipeline.Value

@[expose] public section

noncomputable section

namespace Cert.RefSteps

open Idealize.ShloMosaic Cert.ReferenceIdeal Cert.ReferenceIdeal.Gen Cert.Neuron
open scoped BigOperators

/-- The network's parameters, read from the four arrays that hold them. -/
def weights (a : FVec Ideal S64x64 .f32) (b : FVec Ideal S64x512 .f32) (c : FVec Ideal S512x64 .f32)
    (d : FVec Ideal S512 .f32) : Weights where
  A n k := a (ix2 n k)
  B n k := b (ix2 n k)
  C q k := c (ix2 q k)
  D q := d (ix1 q)

/-- The inputs over time of batch entry `e` at sequence position `r` (at rest after the sixteenth time step). -/
def inputs (x : FVec Ideal S8x16x1024x512 .f32) (e : Fin 8) (r : Fin 1024) (t : ℕ) (q : Fin 512) : EReal :=
  if h : t < 16 then x (ix4 e ⟨t, h⟩ r q) else 0

variable (s : Step.State Ideal) (j : ℕ)

/-- The row of batch entry `e` and position `r` in the carried arrays. -/
def rowOf (e : Fin 8) (r : Fin 1024) : Row where
  h n := s.main_v5_6 (ix3 e r n)
  v n := s.main_v5_7 (ix3 e r n)
  o q := s.main_v5_8 (ix3 e r q)

/-- The parameters in the loop's constants. -/
abbrev W : Weights := weights s.main_v5_1 s.main_v5_2 s.main_v5_3 s.main_v5_4

/-- A carried array's start indices in trip `j`: the trip's number, then zeros. -/
theorem start_eq (hj : j < 16) (a : Fin 4) (b0 b1 b2 : IVec S_ 32)
    (h0 : b0 = constantI S_ 32 0#32) (h1 : b1 = constantI S_ 32 0#32) (h2 : b2 = constantI S_ 32 0#32) :
    ((![constantI S_ 32 (BitVec.ofNat 32 j), b0, b1, b2] : Fin 4 → IVec S_ 32) a (Shape.Idx.first h_S_)).toInt
      = ((![j, 0, 0, 0] : Fin 4 → ℕ) a : Int) := by
  subst h0 h1 h2
  fin_cases a
  · exact toInt_ofNat_of_lt (by omega)
  all_goals rfl

/-- A block of one time step fits the stacked array at step `j`. -/
theorem slices (hj : j < 16) : S16x8x1024x512.Slices (![j, 0, 0, 0] : Fin 4 → ℕ) S1x8x1024x512 := by
  refine ⟨rfl, fun a => ?_⟩
  fin_cases a
  · show j + 1 ≤ 16; omega
  all_goals (show 0 + _ ≤ _; decide)

/-- Trip `j`'s slice of the time-major input is its time step `j`. -/
theorem slice_apply (hj : j < 16) (e : Fin 8) (r : Fin 1024) (q : Fin 512) :
    Step.b4 j s (ix3 e r q) = s.main_v5_0 (ix4 ⟨j, hj⟩ e r q) := by
  unfold Step.b4 Step.b3
  rw [Host.dynamicSlice_eq_extractStridedSlice _ _ _ (![j, 0, 0, 0] : Fin 4 → ℕ) _ (slices j hj)
    (fun a => start_eq j hj a _ _ _ rfl rfl rfl)]
  pointwise

/-- The charged hidden potentials of trip `j`. -/
theorem hidden_apply (e : Fin 8) (r : Fin 1024) (n : Fin 64) :
    Step.b12 j s (ix3 e r n) = hiddenPot (W s) (fun q => Step.b4 j s (ix3 e r q)) (rowOf s e r) n := by
  unfold Step.b12 Step.b11 Step.b10 Step.b9 Step.b8 Step.b7 Step.b6 Step.b5 hiddenPot charge
  pointwise [dot_S8x1024x64_S64x64_S8x1024x64_2_1_01_0_n_n, dot_S8x1024x512_S64x512_S8x1024x64_2_1_01_0_n_n]
  rw [two_f32, div_two]
  rfl

/-- The hidden spikes of trip `j`. -/
theorem hidden_fire (e : Fin 8) (r : Fin 1024) (n : Fin 64) :
    Step.b16 j s (ix3 e r n) = fire (Step.b12 j s (ix3 e r n)) := by
  unfold Step.b16 Step.b15 Step.b14 Step.b13
  pointwise
  exact fire_unsigned _

/-- The hidden potentials after trip `j`. -/
theorem hidden_reset (e : Fin 8) (r : Fin 1024) (n : Fin 64) :
    Step.b20 j s (ix3 e r n) = reset (Step.b12 j s (ix3 e r n)) := by
  unfold Step.b20 Step.b19 Step.b18 Step.b17
  pointwise
  rw [hidden_fire, reset_mul]

/-- The charged output potentials of trip `j`. -/
theorem output_apply (e : Fin 8) (r : Fin 1024) (q : Fin 512) :
    Step.b30 j s (ix3 e r q) = outputPot (W s) (fun q => Step.b4 j s (ix3 e r q)) (rowOf s e r) q := by
  unfold Step.b30 Step.b29 Step.b28 Step.b27 Step.b26 Step.b25 Step.b24 Step.b23 Step.b22 Step.b21 outputPot charge
  pointwise [dot_S8x1024x64_S512x64_S8x1024x512_2_1_01_0_n_n]
  rw [two_f32, div_two]
  simp only [hidden_fire, hidden_apply]
  rfl

/-- The output spikes of trip `j`. -/
theorem output_fire (e : Fin 8) (r : Fin 1024) (q : Fin 512) :
    Step.b34 j s (ix3 e r q) = fire (Step.b30 j s (ix3 e r q)) := by
  unfold Step.b34 Step.b33 Step.b32 Step.b31
  pointwise
  exact fire_unsigned _

/-- The output potentials after trip `j`. -/
theorem output_reset (e : Fin 8) (r : Fin 1024) (q : Fin 512) :
    Step.b38 j s (ix3 e r q) = reset (Step.b30 j s (ix3 e r q)) := by
  unfold Step.b38 Step.b37 Step.b36 Step.b35
  pointwise
  rw [output_fire, reset_mul]

/-- The row after trip `j` is one step of the recurrence. -/
theorem rowOf_step (e : Fin 8) (r : Fin 1024) :
    rowOf (Step.step j s) e r = next (W s) (fun q => Step.b4 j s (ix3 e r q)) (rowOf s e r) := by
  ext n
  · exact (hidden_fire s j e r n).trans (congrArg fire (hidden_apply s j e r n))
  · exact (hidden_reset s j e r n).trans (congrArg reset (hidden_apply s j e r n))
  · exact (output_reset s j e r n).trans (congrArg reset (output_apply s j e r n))

/-- The stacked output after trip `j`: the trip's spikes at time step `j`, elsewhere what it held. -/
theorem stack_step (hj : j < 16) (t : Fin 16) (e : Fin 8) (r : Fin 1024) (q : Fin 512) :
    (Step.step j s).main_v5_9 (ix4 t e r q)
      = if t.val = j then Step.b34 j s (ix3 e r q) else s.main_v5_9 (ix4 t e r q) := by
  show Step.b43 j s (ix4 t e r q) = _
  unfold Step.b43 Step.b39
  rw [Host.dynamicUpdateSlice_eq_updateSlice _ _ _ _ (![j, 0, 0, 0] : Fin 4 → ℕ) (fun a => by
    have h1 := start_eq j hj a (Step.b40 j s) (Step.b41 j s) (Step.b42 j s) rfl rfl rfl
    have h2 := (slices j hj).2 a
    rw [h1]
    simp only [max_eq_left (Int.natCast_nonneg _)]
    exact (congrArg Int.toNat (min_eq_left (Int.ofNat_le.mpr (Nat.le_sub_of_add_le h2)))).trans (Int.toNat_natCast _))
    (slices j hj)]
  pointwise
  by_cases h : t.val = j
  · rw [dif_pos (by omega), if_pos h]
  · rw [dif_neg (by omega), if_neg h]

/-- What holds before trip `k` of a loop started on the input `x` with parameters `P`. -/
structure Before (P : Weights) (x : FVec Ideal S8x16x1024x512 .f32) (k : ℕ) (s : Step.State Ideal) : Prop where
  weights : W s = P
  input : ∀ t e r q, s.main_v5_0 (ix4 t e r q) = x (ix4 e t r q)
  row : ∀ e r, rowOf s e r = rows P (inputs x e r) k
  stack : ∀ (t : Fin 16) e r q, t.val < k → s.main_v5_9 (ix4 t e r q) = spikes P (inputs x e r) t q

/-- Before the first trip everything is at rest and nothing is stacked. -/
theorem before_init (a : FVec Ideal S64x64 .f32) (b : FVec Ideal S64x512 .f32) (c : FVec Ideal S512x64 .f32)
    (d : FVec Ideal S512 .f32) (x : FVec Ideal S8x16x1024x512 .f32) :
    Before (weights a b c d) x 0 (Step.init a b c d x) where
  weights := rfl
  input t e r q := by
    show Step.A_main_v3 (F := Ideal) x (ix4 t e r q) = _
    unfold Step.A_main_v3
    pointwise
  row e r := by
    have hz : ∀ i, Step.K_main_v0 (F := Ideal) i = 0 := fun i => by
      unfold Step.K_main_v0 Step.K_main_cst; pointwise
    have hz1 : ∀ i, Step.K_main_v1 (F := Ideal) i = 0 := fun i => by
      unfold Step.K_main_v1 Step.K_main_cst_0; pointwise
    have hz2 : ∀ i, Step.K_main_v2 (F := Ideal) i = 0 := fun i => by
      unfold Step.K_main_v2 Step.K_main_cst_1; pointwise
    ext n
    · exact hz (ix3 e r n)
    · exact hz1 (ix3 e r n)
    · exact hz2 (ix3 e r n)
  stack t e r q h := absurd h (Nat.not_lt_zero _)

/-- A trip keeps it. -/
theorem before_step {P : Weights} {x : FVec Ideal S8x16x1024x512 .f32} {k : ℕ} {s : Step.State Ideal} (hk : k < 16)
    (h : Before P x k s) : Before P x (k + 1) (Step.step k s) where
  weights := h.weights
  input := h.input
  row e r := by
    rw [rowOf_step, h.weights, h.row, rows]
    congr 1
    funext q
    rw [slice_apply s k hk, h.input, inputs, dif_pos hk]
  stack t e r q ht := by
    rw [stack_step s k hk]
    split
    · next htk =>
      subst htk
      rw [output_fire, output_apply, h.weights, h.row, spikes]
      congr 2
      funext q
      rw [slice_apply s t hk, h.input, inputs, dif_pos hk]
    · next htk => exact h.stack t e r q (by omega)

/-- The reference's result, of a sequence of states that starts at the loop's first and goes on by its trips: the spikes
    of every row at every time step. -/
theorem result_apply (a : FVec Ideal S64x64 .f32) (b : FVec Ideal S64x512 .f32) (c : FVec Ideal S512x64 .f32)
    (d : FVec Ideal S512 .f32) (x : FVec Ideal S8x16x1024x512 .f32) (it : ℕ → Step.State Ideal)
    (h0 : it 0 = Step.init a b c d x) (hs : ∀ n, it (n + 1) = Step.step n (it n))
    (e : Fin 8) (t : Fin 16) (r : Fin 1024) (q : Fin 512) :
    Step.R_main_v6 (it 16) (ix4 e t r q) = spikes (weights a b c d) (inputs x e r) t q := by
  have hB : ∀ k, k ≤ 16 → Before (weights a b c d) x k (it k) := by
    intro k
    induction k with
    | zero => intro _; rw [h0]; exact before_init a b c d x
    | succ k ih => intro hk; rw [hs]; exact before_step (by omega) (ih (by omega))
  rw [← (hB 16 le_rfl).stack t e r q t.isLt]
  unfold Step.R_main_v6
  pointwise

end Cert.RefSteps

end
-- ==== Proof.Windows.lean ====
/-
  What the kernel's windows read. The four parameter windows are whole arrays: the transposes of A, B and C and the row
  made of D, so their weights are the weights of the launched parameters. The input window at grid point `n` is four
  time steps of one batch entry: entry `n / 4`, time steps `4 (n % 4)` to `4 (n % 4) + 3`.
-/
module

public import proofs.«01_k».proof.Proof.PointValue
public import proofs.«01_k».proof.Proof.RefSteps

@[expose] public section

noncomputable section

namespace Cert.Windows

open Idealize.ShloMosaic Idealize.ShloMosaic.TcCoe Idealize.ShloMosaic.Tactic
open Cert.KernelIdeal Cert.KernelIdeal.Gen Cert.Neuron Cert.BlockSteps Cert.BodyValues

variable (m : (ℓ : Loc nD τ sig) → Buf (Elt Ideal) ℓ) (c : Dev nD)

/-- The launched x, A, B, C and D, as arrays. -/
abbrev argX : Arr S8x16x1024x512 := m ((c : Thread nD τ).loc main_arg0)
abbrev argA : Arr S64x64 := m ((c : Thread nD τ).loc main_arg1)
abbrev argB : Arr S64x512 := m ((c : Thread nD τ).loc main_arg2)
abbrev argC : Arr S512x64 := m ((c : Thread nD τ).loc main_arg3)
abbrev argD : Arr S512 := m ((c : Thread nD τ).loc main_arg4)

/-- The weights of the launched parameters. -/
abbrev argW : Weights := RefSteps.weights (argA m c) (argB m c) (argC m c) (argD m c)

/-- The array behind the first parameter window is A transposed. -/
theorem array_A (k n : Fin 64) : (V m c main_v0 : Arr S64x64) (ix2 k n) = argA m c (ix2 n k) := by
  unfold V
  after_results
  pointwise

/-- The array behind the second parameter window is B transposed. -/
theorem array_B (k : Fin 512) (n : Fin 64) : (V m c main_v1 : Arr S512x64) (ix2 k n) = argB m c (ix2 n k) := by
  unfold V
  after_results
  pointwise

/-- The array behind the third parameter window is C transposed. -/
theorem array_C (k : Fin 64) (q : Fin 512) : (V m c main_v2 : Arr S64x512) (ix2 k q) = argC m c (ix2 q k) := by
  unfold V
  after_results
  pointwise

/-- The array behind the fourth parameter window is D as one row. -/
theorem array_D (q : Fin 512) : (V m c main_v3 : Arr S1x512) (ix2 0 q) = argD m c (ix1 q) := by
  unfold V
  after_results
  pointwise

/-- The window of A transposed is that whole array at every point. -/
theorem window_A (t : Fin cfg0.N) (k n : Fin 64) : (iblk m c 1 t : Arr S64x64) (ix2 k n) = argA m c (ix2 n k) := by
  rw [← array_A]
  unfold iblk
  rw [View.read_apply]
  show V m c main_v0 _ = V m c main_v0 _
  congr 1
  funext a
  apply Fin.ext
  match a with
  | ⟨0, _⟩ => show 0 * 64 + 1 * k.val = k.val; omega
  | ⟨1, _⟩ => show 0 * 64 + 1 * n.val = n.val; omega

/-- The window of B transposed is that whole array at every point. -/
theorem window_B (t : Fin cfg0.N) (k : Fin 512) (n : Fin 64) : (iblk m c 2 t : Arr S512x64) (ix2 k n) = argB m c (ix2 n k) := by
  rw [← array_B]
  unfold iblk
  rw [View.read_apply]
  show V m c main_v1 _ = V m c main_v1 _
  congr 1
  funext a
  apply Fin.ext
  match a with
  | ⟨0, _⟩ => show 0 * 512 + 1 * k.val = k.val; omega
  | ⟨1, _⟩ => show 0 * 64 + 1 * n.val = n.val; omega

/-- The window of C transposed is that whole array at every point. -/
theorem window_C (t : Fin cfg0.N) (k : Fin 64) (q : Fin 512) : (iblk m c 3 t : Arr S64x512) (ix2 k q) = argC m c (ix2 q k) := by
  rw [← array_C]
  unfold iblk
  rw [View.read_apply]
  show V m c main_v2 _ = V m c main_v2 _
  congr 1
  funext a
  apply Fin.ext
  match a with
  | ⟨0, _⟩ => show 0 * 64 + 1 * k.val = k.val; omega
  | ⟨1, _⟩ => show 0 * 512 + 1 * q.val = q.val; omega

/-- The window of D's row is that whole row at every point. -/
theorem window_D (t : Fin cfg0.N) (q : Fin 512) : (iblk m c 4 t : Arr S1x512) (ix2 0 q) = argD m c (ix1 q) := by
  rw [← array_D]
  unfold iblk
  rw [View.read_apply]
  show V m c main_v3 _ = V m c main_v3 _
  congr 1
  funext a
  apply Fin.ext
  match a with
  | ⟨0, _⟩ => show 0 * 1 + 1 * 0 = 0; rfl
  | ⟨1, _⟩ => show 0 * 512 + 1 * q.val = q.val; omega

/-- The parameters the body reads at point `t`. -/
abbrev params (t : Fin cfg0.N) : Params := ⟨iblk m c 1 t, iblk m c 2 t, iblk m c 3 t, iblk m c 4 t⟩

/-- At every point the body's parameters carry the weights of the launched parameters. -/
theorem params_weights (t : Fin cfg0.N) : (params m c t).weights = argW m c := by
  unfold argW Params.weights RefSteps.weights
  simp only [window_A, window_B, window_C, window_D]

/-- The input window's block index at point `n`: batch entry `n / 4`, time chunk `n % 4`. -/
theorem index_x : ∀ t : Fin cfg0.N, win0_0.index t (0 : Fin 4) = t.val / 4 ∧ win0_0.index t (1 : Fin 4) = t.val % 4
    ∧ win0_0.index t (2 : Fin 4) = 0 ∧ win0_0.index t (3 : Fin 4) = 0 :=
  (by decide +kernel : ∀ t : Fin grid0.N, _)

/-- The input window at point `n` holds batch entry `n / 4` at time steps `4 (n % 4) + s`, `s < 4`. -/
theorem window_x (t : Fin cfg0.N) (e : Fin 8) (he : t.val / 4 = e.val) (s : Fin 4) (r : Fin 1024) (q : Fin 512)
    (hs : 4 * (t.val % 4) + s.val < 16) :
    (iblk m c 0 t : Arr S1x4x1024x512) (ix4 0 s r q) = argX m c (ix4 e ⟨4 * (t.val % 4) + s.val, hs⟩ r q) := by
  obtain ⟨e0, e1, e2, e3⟩ := index_x t
  unfold iblk
  rw [View.read_apply]
  show V m c main_arg0 _ = _
  rw [V_main_arg0]
  congr 1
  funext a
  apply Fin.ext
  match a with
  | ⟨0, _⟩ => show win0_0.index t (0 : Fin 4) * 1 + 1 * 0 = e.val; omega
  | ⟨1, _⟩ => show win0_0.index t (1 : Fin 4) * 4 + 1 * s.val = 4 * (t.val % 4) + s.val; omega
  | ⟨2, _⟩ => show win0_0.index t (2 : Fin 4) * 1024 + 1 * r.val = r.val; omega
  | ⟨3, _⟩ => show win0_0.index t (3 : Fin 4) * 512 + 1 * q.val = q.val; omega

/-- Row `r` of the four input slabs at point `n` is that row's input at time steps `4 (n % 4) + s`. -/
theorem slabs_row (t : Fin cfg0.N) (e : Fin 8) (he : t.val / 4 = e.val) (r : Fin 1024) (s : ℕ) (hs : s < 4) :
    (fun q => slabs (iblk m c 0 t) s (ix2 r q)) = RefSteps.inputs (argX m c) e r (4 * (t.val % 4) + s) := by
  funext q
  have hlt : 4 * (t.val % 4) + s < 16 := by omega
  unfold slabs RefSteps.inputs
  rw [dif_pos hs, dif_pos hlt]
  exact window_x m c t e he ⟨s, hs⟩ r q hlt

end Cert.Windows

end
-- ==== Proof.ArrayValue.lean ====
/-
  What the kernel's result array holds. By induction on the grid point: after point `n` the carried state of row `r` is
  that row's state after time step `4 (n % 4) + 3` of batch entry `n / 4`, and the block the point writes is the spikes
  of its four time steps. The array, tiled by these blocks, is therefore the spikes of every entry at every time step.
-/
module

public import proofs.«01_k».proof.Proof.Windows

@[expose] public section

noncomputable section

namespace Cert.ArrayValue

open Idealize.ShloMosaic Idealize.ShloMosaic.TcCoe
open Cert.KernelIdeal Cert.KernelIdeal.Gen Cert.Neuron Cert.BlockSteps Cert.BodyValues Cert.PointValue Cert.Windows

variable (m : (ℓ : Loc nD τ sig) → Buf (Elt Ideal) ℓ) (c : Dev nD)

/-- The state carried out of grid point `n`. -/
def carried (n : ℕ) (hn : n < cfg0.N) : Block :=
  ⟨(outsAt0 m c n hn).2.1, (outsAt0 m c n hn).2.2.1, (outsAt0 m c n hn).2.2.2⟩

/-- At a point that starts a batch entry the carried state is four time steps from rest. -/
theorem carried_start (t : Fin cfg0.N) (h0 : t.val % 4 = 0) :
    carried m c t.val t.isLt = statesBlk (params m c t) (slabs (iblk m c 0 t)) restBlk 4 := by
  unfold carried
  rw [outsAt0_A m c t h0]
  dsimp only
  rw [state_A_h, state_A_v, state_A_o]

/-- At any other point it is four time steps from the state the point before carried out. -/
theorem carried_next (t : Fin cfg0.N) (h0 : ¬t.val % 4 = 0) :
    carried m c t.val t.isLt = statesBlk (params m c t) (slabs (iblk m c 0 t))
      (carried m c (t.val - 1) (Nat.lt_of_le_of_lt (Nat.sub_le _ _) t.isLt)) 4 := by
  conv_lhs => unfold carried
  rw [outsAt0_B m c t h0]
  dsimp only
  rw [state_B_h, state_B_v, state_B_o]
  rfl

/-- The block written at a point that starts a batch entry. -/
theorem written_start (t : Fin cfg0.N) (h0 : t.val % 4 = 0) :
    (outsAt0 m c t.val t.isLt).1 = outBlk (params m c t) (slabs (iblk m c 0 t)) restBlk := by
  rw [outsAt0_A m c t h0]
  dsimp only
  rw [out_A]

/-- The block written at any other point. -/
theorem written_next (t : Fin cfg0.N) (h0 : ¬t.val % 4 = 0) :
    (outsAt0 m c t.val t.isLt).1 = outBlk (params m c t) (slabs (iblk m c 0 t))
      (carried m c (t.val - 1) (Nat.lt_of_le_of_lt (Nat.sub_le _ _) t.isLt)) := by
  rw [outsAt0_B m c t h0]
  dsimp only
  rw [out_B]
  rfl

/-- Four time steps of the block at point `n`, from the states of its rows before time step `4 (n % 4)`, end in their
    states before time step `4 (n % 4) + 4`. -/
theorem four_steps (t : Fin cfg0.N) (e : Fin 8) (he : t.val / 4 = e.val) (r : Fin 1024) (b : Block)
    (hb : b.row r = rows (argW m c) (RefSteps.inputs (argX m c) e r) (4 * (t.val % 4))) :
    (statesBlk (params m c t) (slabs (iblk m c 0 t)) b 4).row r
      = rows (argW m c) (RefSteps.inputs (argX m c) e r) (4 * (t.val % 4) + 4) := by
  rw [← params_weights m c t] at hb ⊢
  exact statesBlk_row _ _ b r _ _ hb 4 fun s hs => slabs_row m c t e he r s hs

/-- The block written at point `n`, from the states of its rows before time step `4 (n % 4)`, holds their spikes. -/
theorem four_spikes (t : Fin cfg0.N) (e : Fin 8) (he : t.val / 4 = e.val) (r : Fin 1024) (b : Block)
    (hb : b.row r = rows (argW m c) (RefSteps.inputs (argX m c) e r) (4 * (t.val % 4))) (s : Fin 4) (q : Fin 512) :
    outBlk (params m c t) (slabs (iblk m c 0 t)) b (ix4 0 s r q)
      = spikes (argW m c) (RefSteps.inputs (argX m c) e r) (4 * (t.val % 4) + s.val) q := by
  rw [← params_weights m c t] at hb ⊢
  exact spikesBlk_row _ _ b r _ _ hb s.val (fun k hk => slabs_row m c t e he r k (by omega)) q

/-- Row `r` of the state at rest is its state before time step 0. -/
theorem rest_start (t : Fin cfg0.N) (e : Fin 8) (r : Fin 1024) (h0 : t.val % 4 = 0) :
    restBlk.row r = rows (argW m c) (RefSteps.inputs (argX m c) e r) (4 * (t.val % 4)) := by
  rw [h0, restBlk_row]
  rfl

/-- The state carried out of point `n`: row `r` is its state before time step `4 (n % 4) + 4` of batch entry `n / 4`. -/
theorem carried_row (n : ℕ) (hn : n < cfg0.N) (e : Fin 8) (he : n / 4 = e.val) (r : Fin 1024) :
    (carried m c n hn).row r = rows (argW m c) (RefSteps.inputs (argX m c) e r) (4 * (n % 4) + 4) := by
  induction n with
  | zero =>
    rw [carried_start m c ⟨0, hn⟩ rfl]
    exact four_steps m c ⟨0, hn⟩ e he r _ (rest_start m c ⟨0, hn⟩ e r rfl)
  | succ n ih =>
    by_cases h0 : (n + 1) % 4 = 0
    · rw [carried_start m c ⟨n + 1, hn⟩ h0]
      exact four_steps m c ⟨n + 1, hn⟩ e he r _ (rest_start m c ⟨n + 1, hn⟩ e r h0)
    · rw [carried_next m c ⟨n + 1, hn⟩ h0]
      refine four_steps m c ⟨n + 1, hn⟩ e he r _ ?_
      refine (ih (Nat.lt_of_succ_lt hn) (by omega)).trans ?_
      show rows _ _ (4 * (n % 4) + 4) = rows _ _ (4 * ((n + 1) % 4))
      rw [show 4 * (n % 4) + 4 = 4 * ((n + 1) % 4) from by omega]

/-- The block written at point `n` holds the spikes of batch entry `n / 4` at time steps `4 (n % 4) + s`. -/
theorem written_apply (t : Fin cfg0.N) (e : Fin 8) (he : t.val / 4 = e.val) (s : Fin 4) (r : Fin 1024) (q : Fin 512) :
    ((outsAt0 m c t.val t.isLt).1 : Arr S1x4x1024x512) (ix4 0 s r q)
      = spikes (argW m c) (RefSteps.inputs (argX m c) e r) (4 * (t.val % 4) + s.val) q := by
  by_cases h0 : t.val % 4 = 0
  · rw [written_start m c t h0]
    exact four_spikes m c t e he r _ (rest_start m c t e r h0) s q
  · rw [written_next m c t h0]
    refine four_spikes m c t e he r _ ?_ s q
    refine (carried_row m c (t.val - 1) _ e (by omega) r).trans ?_
    rw [show 4 * ((t.val - 1) % 4) + 4 = 4 * (t.val % 4) from by omega]

/-- THE RESULT ARRAY: at batch entry `e`, time step `t`, row `r` and channel `q`, the spike of that row's recurrence. -/
theorem array_apply (e : Fin 8) (t : Fin 16) (r : Fin 1024) (q : Fin 512) :
    (Value.G5 m c : Arr S8x16x1024x512) (ix4 e t r q)
      = spikes (argW m c) (RefSteps.inputs (argX m c) e r) t.val q := by
  have hp : Value.pt5Of (ix4 e t r q) = 4 * e.val + t.val / 4 := by
    show 4 * (e.val / 1 - 0) + 1 * (t.val / 4 - 0) + 1 * (r.val / 1024 - 0) + 1 * (q.val / 512 - 0) = _
    omega
  have hn : Value.pt5Of (ix4 e t r q) < cfg0.N := by
    rw [hp]
    exact lt_of_lt_of_eq (by omega) N_0.symm
  have hl : Value.loc5Of (ix4 e t r q) = (ix4 0 ⟨t.val % 4, Nat.mod_lt _ (by decide)⟩ r q : S1x4x1024x512.Idx) := by
    funext a
    apply Fin.ext
    match a with
    | ⟨0, _⟩ => show e.val % 1 = 0; omega
    | ⟨1, _⟩ => rfl
    | ⟨2, _⟩ => show r.val % 1024 = r.val; omega
    | ⟨3, _⟩ => show q.val % 512 = q.val; omega
  unfold Value.G5
  rw [dif_pos hn, hl, ← Value.outsAt0_sweep]
  refine (written_apply m c ⟨_, hn⟩ e (by dsimp only; omega) _ r q).trans ?_
  dsimp only
  rw [show 4 * (Value.pt5Of (ix4 e t r q) % 4) + t.val % 4 = t.val from by omega]

end Cert.ArrayValue

end
-- ==== Proof.RefRun.lean ====
/-
  The reference's run: its loop's trips, as they act on the carried arrays, are the trips of Proof/RefSteps.lean, so its
  result is the spikes of the recurrence of Proof/Neuron.lean.
-/
module

public import proofs.«01_k».proof.Proof.RefSteps
public import proofs.«01_k».proof.Proof.Gen.ReferenceIdeal.Run

@[expose] public section

noncomputable section

namespace Cert.RefRun

open Idealize.ShloMosaic Idealize.ShloMosaic.TcCoe Idealize.ShloMosaic.StableHlo Idealize.SL.Sem
open Cert.ReferenceIdeal Cert.ReferenceIdeal.Gen Cert.ReferenceIdeal.Value Cert.Neuron

/-- The trip's state, read off the arrays that carry it. -/
def stateOf (V : Valuation τ sig (Elt Ideal)) : Step.State Ideal where
  main_v5_6 := V (Proc.devRef .tc main_v5_6)
  main_v5_7 := V (Proc.devRef .tc main_v5_7)
  main_v5_8 := V (Proc.devRef .tc main_v5_8)
  main_v5_9 := V (Proc.devRef .tc main_v5_9)
  main_v5_0 := V (Proc.devRef .tc main_v5_0)
  main_v5_1 := V (Proc.devRef .tc main_v5_1)
  main_v5_2 := V (Proc.devRef .tc main_v5_2)
  main_v5_3 := V (Proc.devRef .tc main_v5_3)
  main_v5_4 := V (Proc.devRef .tc main_v5_4)

/-- The arrays are those before trip `j`: the loop's counter is `j`. -/
def Counts (V : Valuation τ sig (Elt Ideal)) (j : ℕ) : Prop :=
  V (Proc.devRef .tc main_v5_5) = constantI S_ 32 (BitVec.ofNat 32 j)

variable {V : Valuation τ sig (Elt Ideal)} {j : ℕ}

/-- The slice of the inputs that trip `j` takes. -/
theorem slice_eq (h : Counts V j) : res_main_while0b_v7 V = Step.b4 j (stateOf V) := by
  unfold res_main_while0b_v7
  rw [h]
  rfl

/-- The charged hidden potentials. -/
theorem hidden_eq (h : Counts V j) : res_main_while0b_v14 V = Step.b12 j (stateOf V) := by
  unfold res_main_while0b_v14
  rw [slice_eq h]
  rfl

/-- The hidden spikes. -/
theorem hidden_spikes_eq (h : Counts V j) : res_main_while0b_v17 V = Step.b16 j (stateOf V) := by
  unfold res_main_while0b_v17
  rw [hidden_eq h]
  rfl

/-- The charged output potentials. -/
theorem output_eq (h : Counts V j) : res_main_while0b_v29 V = Step.b30 j (stateOf V) := by
  unfold res_main_while0b_v29
  rw [slice_eq h, hidden_spikes_eq h]
  rfl

/-- The output spikes. -/
theorem output_spikes_eq (h : Counts V j) : res_main_while0b_v32 V = Step.b34 j (stateOf V) := by
  unfold res_main_while0b_v32
  rw [output_eq h]
  rfl

/-- What a trip leaves in the hidden spikes' array. -/
theorem trip_h (h : Counts V j) : step_main_v5_6 V = Step.b16 j (stateOf V) := by
  unfold step_main_v5_6
  exact hidden_spikes_eq h

/-- What a trip leaves in the hidden potentials' array. -/
theorem trip_v (h : Counts V j) : step_main_v5_7 V = Step.b20 j (stateOf V) := by
  unfold step_main_v5_7
  rw [hidden_eq h, hidden_spikes_eq h]
  rfl

/-- What a trip leaves in the output potentials' array. -/
theorem trip_o (h : Counts V j) : step_main_v5_8 V = Step.b38 j (stateOf V) := by
  unfold step_main_v5_8
  rw [output_eq h, output_spikes_eq h]
  rfl

/-- What a trip leaves in the stacked output. -/
theorem trip_stack (h : Counts V j) : step_main_v5_9 V = Step.b43 j (stateOf V) := by
  unfold step_main_v5_9
  rw [output_spikes_eq h, h]
  rfl

/-- A trip of the run is a trip of the state. -/
theorem stateOf_trip (h : Counts V j) : stateOf (STEP V) = Step.step j (stateOf V) := by
  unfold stateOf Step.step
  rw [STEP_main_v5_6, STEP_main_v5_7, STEP_main_v5_8, STEP_main_v5_9, STEP_main_v5_0, STEP_main_v5_1, STEP_main_v5_2,
    STEP_main_v5_3, STEP_main_v5_4, trip_h h, trip_v h, trip_o h, trip_stack h]
  rfl

/-- A trip counts one on. -/
theorem counts_trip (h : Counts V j) : Counts (STEP V) (j + 1) := by
  unfold Counts
  rw [STEP_main_v5_5]
  unfold step_main_v5_5
  rw [h]
  funext i
  exact (BitVec.ofNat_add (n := 32) j 1).symm

/-- The result is read off the stacked output. -/
theorem result_of : out_main_v6 V = Step.R_main_v6 (stateOf V) := by
  unfold out_main_v6 Step.R_main_v6 stateOf
  rfl

variable (m : (ℓ : Loc nD τ sig) → Buf (Elt Ideal) ℓ) (c : Dev nD)

/-- The first trip's state, of the launched arguments. -/
abbrev start : Step.State Ideal :=
  Step.init (m ((c : Thread nD τ).loc main_arg1)) (m ((c : Thread nD τ).loc main_arg2)) (m ((c : Thread nD τ).loc main_arg3))
    (m ((c : Thread nD τ).loc main_arg4)) (m ((c : Thread nD τ).loc main_arg0))

/-- The state before trip `k`. -/
def states : ℕ → Step.State Ideal
  | 0 => start m c
  | k + 1 => Step.step k (states k)

set_option maxRecDepth 65536 in
/-- Before the loop the carried arrays hold the first state. -/
theorem stateOf_entry : stateOf (entryContents preI m c) = start m c := by
  unfold stateOf start Step.init
  simp only [entryContents, afterL_cons, afterL_nil]
  after_reads_simp
  rfl

set_option maxRecDepth 65536 in
/-- Before the loop the counter is 0. -/
theorem counts_entry : Counts (entryContents preI m c) 0 := by
  unfold Counts
  simp only [entryContents, afterL_cons, afterL_nil]
  after_reads_simp
  rfl

/-- Before trip `k` the counter is `k` and the carried arrays hold state `k`. -/
theorem iterate (k : ℕ) :
    Counts (STEP^[k] (entryContents preI m c)) k ∧ stateOf (STEP^[k] (entryContents preI m c)) = states m c k := by
  induction k with
  | zero => exact ⟨counts_entry m c, stateOf_entry m c⟩
  | succ k ih =>
    rw [Function.iterate_succ_apply']
    exact ⟨counts_trip ih.1, (stateOf_trip ih.1).trans (congrArg (Step.step k) ih.2)⟩

/-- THE REFERENCE'S RESULT: at batch entry `e`, time step `t`, row `r` and channel `q`, the spike of that row's recurrence. -/
theorem result_apply (e : Fin 8) (t : Fin 16) (r : Fin 1024) (q : Fin 512) :
    (out_main_v6 (STEP^[16] (entryContents preI m c)) : FVec Ideal S8x16x1024x512 .f32) (ix4 e t r q)
      = spikes (RefSteps.weights (m ((c : Thread nD τ).loc main_arg1)) (m ((c : Thread nD τ).loc main_arg2))
          (m ((c : Thread nD τ).loc main_arg3)) (m ((c : Thread nD τ).loc main_arg4)))
        (RefSteps.inputs (m ((c : Thread nD τ).loc main_arg0)) e r) t q := by
  rw [result_of, (iterate m c 16).2]
  exact RefSteps.result_apply _ _ _ _ _ (states m c) rfl (fun _ => rfl) e t r q

end Cert.RefRun

end
-- ==== Proof.Equation.lean ====
/-
  The equation: the kernel's result array (Proof/ArrayValue.lean) and the reference's (Proof/RefRun.lean) are both the
  spikes of the recurrence of Proof/Neuron.lean, so on equal arguments they are equal.
-/
module

public import proofs.«01_k».proof.Proof.ArrayValue
public import proofs.«01_k».proof.Proof.RefRun

@[expose] public section

noncomputable section

namespace Cert.Equation

open Idealize.ShloMosaic Idealize.ShloMosaic.TcCoe
open Cert.BlockSteps Cert.Windows

/-- On memories that agree on x, A, B, C and D, the reference's result is the array the kernel leaves. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hx : m' ((c : Thread ReferenceIdeal.nD ReferenceIdeal.τ).loc ReferenceIdeal.main_arg0) = argX m c)
    (hA : m' ((c : Thread ReferenceIdeal.nD ReferenceIdeal.τ).loc ReferenceIdeal.main_arg1) = argA m c)
    (hB : m' ((c : Thread ReferenceIdeal.nD ReferenceIdeal.τ).loc ReferenceIdeal.main_arg2) = argB m c)
    (hC : m' ((c : Thread ReferenceIdeal.nD ReferenceIdeal.τ).loc ReferenceIdeal.main_arg3) = argC m c)
    (hD : m' ((c : Thread ReferenceIdeal.nD ReferenceIdeal.τ).loc ReferenceIdeal.main_arg4) = argD m c) :
    (ReferenceIdeal.Value.out_main_v6 (ReferenceIdeal.Value.STEP^[16]
        (StableHlo.entryContents ReferenceIdeal.Value.preI m' c)) : Arr KernelIdeal.S8x16x1024x512)
      = KernelIdeal.Value.G5 m c := by
  funext i
  rw [eq_ix4 i]
  refine (RefRun.result_apply m' c (i 0) (i 1) (i 2) (i 3)).trans ?_
  rw [hx, hA, hB, hC, hD]
  exact (ArrayValue.array_apply m c (i 0) (i 1) (i 2) (i 3)).symm

end Cert.Equation

end
-- ==== Proof.lean ====
/-
  The proof of `Cert.Claim`: the three programs' frames, that reading the kernel over the extended reals replaced no
  operation, and that the kernel and the reference end with the same result there. The kernel's result array is that of
  its run (Gen/KernelIdeal/Value.lean) and the reference's that of its loop's trips (Gen/ReferenceIdeal/Run.lean); that
  the two are one array is Proof/Equation.lean.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference ends, its arguments unchanged and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, read over the extended reals, end with the same result on the same arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hA, hB, hC, hD⟩ := hagree c
  exact Cert.Equation.result_eq m m' c hx hA hB hC hD

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
